-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x100000 : Shape := ⟨2, ![8, 100000]⟩
abbrev S32x1x25000 : Shape := ⟨3, ![32, 1, 25000]⟩
abbrev S8x100000x128 : Shape := ⟨3, ![8, 100000, 128]⟩
abbrev S1x1x25000 : Shape := ⟨3, ![1, 1, 25000]⟩
abbrev S1x25000x128 : Shape := ⟨3, ![1, 25000, 128]⟩
abbrev S1x25000 : Shape := ⟨2, ![1, 25000]⟩
abbrev S1x128 : Shape := ⟨2, ![1, 128]⟩
abbrev S25000x128 : Shape := ⟨2, ![25000, 128]⟩
abbrev S8x100000x81 : Shape := ⟨3, ![8, 100000, 81]⟩

abbrev nBuf : Space → Nat
  | .hbm => 4
  | .vmem => 4
  | .smem => 0
  | _ => 0

abbrev bufTy : (tb : Table) → Fin (tcTables nBuf tb) → BufTy
  | .hbm, ⟨0, _⟩ => ⟨S8x100000, .i32⟩
  | .hbm, ⟨1, _⟩ => ⟨S32x1x25000, .i32⟩
  | .hbm, ⟨2, _⟩ => ⟨S8x100000x128, .i32⟩
  | .hbm, ⟨3, _⟩ => ⟨S8x100000x81, .i32⟩
  | .local _ .vmem, ⟨0, _⟩ => ⟨S1x1x25000, .i32⟩
  | .local _ .vmem, ⟨1, _⟩ => ⟨S1x1x25000, .i32⟩
  | .local _ .vmem, ⟨2, _⟩ => ⟨S1x25000x128, .i32⟩
  | .local _ .vmem, ⟨3, _⟩ => ⟨S1x25000x128, .i32⟩
  | _, _ => ⟨S8x100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1x25000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x25000x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x100000 : Shape := ⟨2, ![8, 100000]⟩
abbrev S_ : Shape := ⟨0, ![]⟩
abbrev S8x100000x1 : Shape := ⟨3, ![8, 100000, 1]⟩
abbrev S1x1x81 : Shape := ⟨3, ![1, 1, 81]⟩
abbrev S8x100000x81 : Shape := ⟨3, ![8, 100000, 81]⟩

abbrev nBuf : Space → Nat
  | .hbm => 16
  | .vmem => 0
  | .smem => 0
  | _ => 0

abbrev bufTy : (tb : Table) → Fin (tcTables nBuf tb) → BufTy
  | .hbm, ⟨0, _⟩ => ⟨S8x100000, .i32⟩
  | .hbm, ⟨1, _⟩ => ⟨S_, .i32⟩
  | .hbm, ⟨2, _⟩ => ⟨S8x100000, .i32⟩
  | .hbm, ⟨3, _⟩ => ⟨S8x100000, .i1⟩
  | .hbm, ⟨4, _⟩ => ⟨S8x100000, .i32⟩
  | .hbm, ⟨5, _⟩ => ⟨S8x100000, .i32⟩
  | .hbm, ⟨6, _⟩ => ⟨S8x100000x1, .i32⟩
  | .hbm, ⟨7, _⟩ => ⟨S1x1x81, .i32⟩
  | .hbm, ⟨8, _⟩ => ⟨S8x100000x81, .i32⟩
  | .hbm, ⟨9, _⟩ => ⟨S8x100000x81, .i32⟩
  | .hbm, ⟨10, _⟩ => ⟨S8x100000x81, .i1⟩
  | .hbm, ⟨11, _⟩ => ⟨S8x100000x81, .i32⟩
  | .hbm, ⟨12, _⟩ => ⟨S8x100000x1, .i1⟩
  | .hbm, ⟨13, _⟩ => ⟨S8x100000x81, .i32⟩
  | .hbm, ⟨14, _⟩ => ⟨S8x100000x81, .i1⟩
  | .hbm, ⟨15, _⟩ => ⟨S8x100000x81, .i32⟩
  | _, _ => ⟨S8x100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call1_v0 : Ref sig .tc := ⟨.hbm, 6, rfl⟩
abbrev main_call1_v1 : Ref sig .tc := ⟨.hbm, 7, rfl⟩
abbrev main_call1_v2 : Ref sig .tc := ⟨.hbm, 8, rfl⟩
abbrev main_call1_v3 : Ref sig .tc := ⟨.hbm, 9, rfl⟩
abbrev main_call1_v4 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call2_v0 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Proof.OneHot.Word.lean ====
/-
  One label against one class: the word that the one-hot encoding holds there, and that two ways of computing it agree.
  Labels are 32-bit words read signed; a class is a natural number.
-/
module

public import Idealize.ShloMosaic.PureOps.Ideal.Laws
public import Idealize.ShloMosaic.PureOps.Vector

@[expose] public section

noncomputable section

namespace Cert.OneHot

open Idealize.ShloMosaic

/-- The signed one-hot encoding of label `l` at class `k`: `1` if the label is `k`, `-1` if it is `-k` (and `k` is not
    zero), `0` otherwise. -/
def enc (l : BitVec 32) (k : Nat) : BitVec 32 :=
  if l.toInt = k then 1#32 else if l.toInt = -(k : Int) then 4294967295#32 else 0#32

/-- A class number below 2³¹, written as a word, is itself read signed. -/
theorem toInt_class {k : Nat} (hk : k < 2147483648) : (BitVec.ofNat 32 k).toInt = k := by
  rw [BitVec.toInt_ofNat']
  simp only [Int.bmod, Nat.reducePow]
  omega

/-- Comparing extended reals that are integers compares the integers. -/
theorem cmp_oeq_int (a b : Int) :
    Ideal.cmp .oeq (((a : ℝ)) : EReal) (((b : ℝ)) : EReal) = BitVec.ofBool (decide (a = b)) := by
  have e : (((a : ℝ)) : EReal) = (((b : ℝ)) : EReal) ↔ a = b := by
    rw [EReal.coe_eq_coe_iff]; exact Int.cast_inj
  show BitVec.ofBool (decide ((((a : ℝ)) : EReal) = (((b : ℝ)) : EReal))) = _
  exact congrArg BitVec.ofBool (decide_eq_decide.mpr e)

/-- A select on a decided proposition is the `if`. -/
theorem select_ofBool {α : Type} (p : Prop) [Decidable p] (x y : α) :
    Scalar.select (BitVec.ofBool (decide p)) x y = if p then x else y := by
  by_cases h : p <;> simp [Scalar.select, h]

/-- What the kernel does with a label and a class: label and class become reals and are compared, and the label is
    compared with the class's negative, taken as zero minus it. That is the encoding. -/
theorem kernel_word (l : BitVec 32) {k : Nat} (hk : k < 2147483648) :
    Scalar.select (Ideal.cmp .oeq (((l.toInt : ℝ)) : EReal) ((((BitVec.ofNat 32 k).toInt : ℝ)) : EReal)) 1#32
      (Scalar.select (Ideal.cmp .oeq (((l.toInt : ℝ)) : EReal) (0 - ((((BitVec.ofNat 32 k).toInt : ℝ)) : EReal)))
        4294967295#32 0#32) = enc l k := by
  have hneg : (0 : EReal) - (((k : Int) : ℝ) : EReal) = (((-(k : Int) : Int) : ℝ) : EReal) := by
    rw [zero_sub, ← EReal.coe_neg, Int.cast_neg]
  rw [toInt_class hk, hneg, cmp_oeq_int, cmp_oeq_int, select_ofBool, select_ofBool]
  rfl

/-- What the reference does with a label and a class: the label's absolute value, in wrapping words, is compared with the
    class, and the result is negated where the label is negative. That is the encoding, at every label word: the
    least integer is its own negative, and is no class. -/
theorem reference_word (l : BitVec 32) {k : Nat} (hk : k < 2147483648) :
    Scalar.select (IntOp.cmpi .slt l 0#32)
      (-((IntOp.cmpi .eq (Scalar.select (IntOp.cmpi .slt l 0#32) (-l) l) (BitVec.ofNat 32 k)).setWidth 32))
      ((IntOp.cmpi .eq (Scalar.select (IntOp.cmpi .slt l 0#32) (-l) l) (BitVec.ofNat 32 k)).setWidth 32) = enc l k := by
  have hK := toInt_class hk
  have hs : IntOp.cmpi .slt l 0#32 = BitVec.ofBool (decide (l.toInt < 0)) := by
    simp [IntOp.cmpi, BitVec.slt]
  have he : ∀ x : BitVec 32, (IntOp.cmpi .eq x (BitVec.ofNat 32 k)).setWidth 32
      = if x.toInt = k then 1#32 else 0#32 := by
    intro x
    have hx : x = BitVec.ofNat 32 k ↔ x.toInt = k := by rw [← BitVec.toInt_inj, hK]
    by_cases h : x = BitVec.ofNat 32 k
    · rw [if_pos (hx.mp h), h]; simp [IntOp.cmpi]
    · rw [if_neg (fun h' => h (hx.mpr h'))]
      show (BitVec.ofBool (x == BitVec.ofNat 32 k)).setWidth 32 = 0#32
      rw [beq_false_of_ne h]; rfl
  have hlo : -2147483648 ≤ l.toInt := by have := BitVec.le_toInt l; simpa using this
  have hhi : l.toInt < 2147483648 := by have := BitVec.toInt_lt (x := l); simpa using this
  rw [hs, select_ofBool, select_ofBool, he]
  unfold enc
  by_cases h : l.toInt < 0
  · have hn : (-l).toInt = (k : Int) ↔ l.toInt = -(k : Int) := by
      rw [BitVec.toInt_neg]
      simp only [Int.bmod, Nat.reducePow]
      omega
    rw [if_pos h, if_pos h, if_neg (show l.toInt ≠ (k : Int) by omega)]
    by_cases h' : l.toInt = -(k : Int)
    · rw [if_pos h', if_pos (hn.mpr h')]; decide
    · rw [if_neg h', if_neg (fun h'' => h' (hn.mp h''))]; decide
  · rw [if_neg h, if_neg h]
    by_cases h' : l.toInt = (k : Int)
    · rw [if_pos h', if_pos h']
    · rw [if_neg h', if_neg h', if_neg (show l.toInt ≠ -(k : Int) by omega)]

end Cert.OneHot

end
-- ==== Proof.OneHot.Block.lean ====
/-
  One grid point of the kernel at the ideal values: what the body stores for a block of 25000 labels. The product of the
  labels' row with a row of ones has depth one, so each of its entries is the label itself; compared with the class
  numbers along the lanes it gives the encoding of the label at the lane.
-/
module

public import proofs.«01_k».proof.Proof.Gen.KernelIdeal.Skeleton
public import proofs.«01_k».proof.Proof.OneHot.Word
public import Idealize.ShloMosaic.Lib.Pipeline.Value
public import Idealize.ShloMosaic.Lib.Pointwise.Contract
public import Idealize.ShloMosaic.Lib.IdealHost

@[expose] public section

noncomputable section

namespace Cert.OneHot

open Cert.KernelIdeal Cert.KernelIdeal.Gen Idealize.ShloMosaic Idealize.SL.Sem

/-- Position `r` of a block of labels. -/
def labelAt (r : Fin 25000) : S1x1x25000.Idx := fun a => match a with
  | ⟨0, _⟩ => ⟨0, Nat.one_pos⟩
  | ⟨1, _⟩ => ⟨0, Nat.one_pos⟩
  | ⟨2, _⟩ => r

/-- The labels' block without its leading axis, as reals: at any index of column `r`, label `r`. -/
theorem labels_apply (x : Vec Ideal S1x1x25000 .i32) (j : S1x25000.Idx) :
    sitofp (F := Ideal) .f32 (shapeCast S1x25000 x shapeCasts_S1x1x25000_S1x25000 : IVec S1x25000 32) j
      = ((((x (labelAt (j 1)) : BitVec 32).toInt : ℝ)) : EReal) := by
  have e : (shapeCast S1x25000 x shapeCasts_S1x1x25000_S1x25000 : IVec S1x25000 32) j = x (labelAt (j 1)) := by
    refine shapeCast_apply x _ j (labelAt (j 1)) ?_
    have h0 : (j 0 : Nat) < 1 := (j 0).isLt
    rw [Shape.rowMajor_val_three, Shape.rowMajor_val_two]
    show (0 * 1 + 0) * 25000 + (j 1 : Nat) = (j 0 : Nat) * 25000 + (j 1 : Nat)
    omega
  show ((((shapeCast S1x25000 x shapeCasts_S1x1x25000_S1x25000 : IVec S1x25000 32) j).toInt : ℝ) : EReal) = _
  rw [e]

/-- The product of depth one reads the left operand's column at the result's row. -/
theorem lhs_col (j : S25000x128.Idx) (k : dot_S1x25000_S1x128_S25000x128_0_0_1_1_n_n.contr.Idx) :
    dot_S1x25000_S1x128_S25000x128_0_0_1_1_n_n.lhsIdx j k 1 = j 0 := by
  apply Fin.ext
  simp [DotDims.lhsIdx, dot_S1x25000_S1x128_S25000x128_0_0_1_1_n_n]
  rfl

/-- The labels spread along the lanes by the product with ones: entry `(r, k)` is label `r`. -/
theorem spread_apply (x : Vec Ideal S1x1x25000 .i32) (j : S25000x128.Idx) :
    matmul (F := Ideal) dot_S1x25000_S1x128_S25000x128_0_0_1_1_n_n none
        (sitofp .f32 (shapeCast S1x25000 x shapeCasts_S1x1x25000_S1x25000 : IVec S1x25000 32))
        (broadcast S1x128 (Scalar.ofBits .f32 0x3F800000#32)) (constant S25000x128 .f32 0x00000000#32) j
      = ((((x (labelAt (j 0)) : BitVec 32).toInt : ℝ)) : EReal) := by
  have hone : ∀ i : S1x128.Idx, (broadcast S1x128 (Scalar.ofBits (F := Ideal) .f32 0x3F800000#32)) i = (1 : EReal) :=
    fun _ => Ideal.ofBits_one_f32
  refine (Ideal.matmul_constant_zero_apply dot_S1x25000_S1x128_S25000x128_0_0_1_1_n_n none _ _ j).trans ?_
  simp only [hone, labels_apply, lhs_col, mul_one]
  rw [dot_S1x25000_S1x128_S25000x128_0_0_1_1_n_n.sum_contr₁ (a := 0) rfl (K := 1) rfl, Fin.sum_univ_one]

/-- What the body stores at row `r` and lane `k` of its block: the encoding of label `r` at class `k`. -/
theorem payload_apply (x : Vec Ideal S1x1x25000 .i32) (y : S1x25000x128.Idx) :
    k0_pay1 (F := Ideal) x y = enc (x (labelAt (y 1))) (y 2).val := by
  unfold k0_pay1
  refine (shapeCast_addUnit_apply ![25000, 128] _ _ y).trans ?_
  have hk : (y 2).val < 128 := (y 2).isLt
  have hio : iota .tc S25000x128 32 [1] iota_S25000x128_d1_w32 (fun a => y a.succ) = BitVec.ofNat 32 (y 2).val :=
    iota_single_apply .tc S25000x128 32 1 _ _
  have hm := spread_apply x (fun a => y a.succ)
  have hw := kernel_word (x (labelAt (y 1))) (k := (y 2).val) (by omega)
  rw [← hw, ← hio, ← Ideal.ofBits_zero_f32]
  exact congrArg (fun z : EReal =>
    Scalar.select (Ideal.cmp .oeq z ((((iota .tc S25000x128 32 [1] iota_S25000x128_d1_w32 (fun a => y a.succ)).toInt : ℝ)) : EReal)) 1#32
      (Scalar.select (Ideal.cmp .oeq z (Ideal.ofBits .f32 0x00000000#32 - ((((iota .tc S25000x128 32 [1] iota_S25000x128_d1_w32 (fun a => y a.succ)).toInt : ℝ)) : EReal)))
        4294967295#32 0#32)) hm

end Cert.OneHot

end
-- ==== Proof.OneHot.Kernel.lean ====
/-
  The kernel's whole run at the ideal values. Point `t` of 32 takes labels 25000·t … 25000·t + 24999 of the flattened
  array and writes block `(t / 4, t % 4)` of the padded result (128 lanes for 81 classes); the 32 blocks tile it, and the
  host keeps the first 81 lanes.
-/
module

public import proofs.«01_k».proof.Proof.Gen.KernelIdeal.Frame
public import proofs.«01_k».proof.Proof.OneHot.Block
public import Idealize.ShloMosaic.Lib.StableHlo.Run

@[expose] public section

noncomputable section

namespace Cert.OneHot

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The label at batch `b`, position `n`. -/
def lab (b : Fin 8) (n : Fin 100000) : S8x100000.Idx := fun a => match a with
  | ⟨0, _⟩ => b
  | ⟨1, _⟩ => n

/-- The padded result as one function of the labels: at every lane the encoding of the label at that lane. -/
def padded (x : (⟨S8x100000, .i32⟩ : BufTy).Contents (Elt Ideal)) : (⟨S8x100000x128, .i32⟩ : BufTy).Contents (Elt Ideal) :=
  fun i => enc (x (lab (i 0) (i 1))) (i 2).val

/-- The kernel's result as one function of the labels. -/
def out (x : (⟨S8x100000, .i32⟩ : BufTy).Contents (Elt Ideal)) : (⟨S8x100000x81, .i32⟩ : BufTy).Contents (Elt Ideal) :=
  fun i => enc (x (lab (i 0) (i 1))) (i 2).val

/-- Where the two windows are at point `t`: the labels' block `t`, the result's block `(t / 4, t % 4)`. -/
theorem blocks_at : ∀ t : Fin cfg0.N, win0_0.index t = ![t.val, 0, 0] ∧ win0_1.index t = ![t.val / 4, t.val % 4, 0] :=
  (by decide +kernel : ∀ t : Fin grid0.N, win0_0.index t = ![t.val, 0, 0] ∧ win0_1.index t = ![t.val / 4, t.val % 4, 0])

/-- The region finds the labels regrouped into 32 blocks. -/
theorem entry_labels (c : Dev nD) : V m c main_v0
    = (shapeCast S32x1x25000 (m ((c : Thread nD τ).loc main_arg0)) shapeCasts_S8x100000_S32x1x25000 :
        (⟨S32x1x25000, .i32⟩ : BufTy).Contents (Elt Ideal)) := by
  unfold V V0
  simp only [hostOps0, List.flatten_cons, List.flatten_nil, List.append_nil]
  after_results
  rfl

/-- The place of an index of the label array in its flattened order. -/
theorem place_in_array (i : S8x100000.Idx) : (S8x100000.rowMajor i).val = (i 0 : Nat) * 100000 + (i 1 : Nat) :=
  Shape.rowMajor_val_two i

/-- The place of an index of the regrouped labels in the same order. -/
theorem place_in_blocks (i : S32x1x25000.Idx) :
    (S32x1x25000.rowMajor i).val = ((i 0 : Nat) * 1 + (i 1 : Nat)) * 25000 + (i 2 : Nat) :=
  Shape.rowMajor_val_three i

/-- Label `r` of point `t`'s block is the array's label with the same place in the flattened order. -/
theorem block_label (c : Dev nD) (t : Fin cfg0.N) (r : Fin 25000) (b : Fin 8) (n : Fin 100000)
    (h : b.val * 100000 + n.val = t.val * 25000 + r.val) :
    iblk m c 0 t (labelAt r) = m ((c : Thread nD τ).loc main_arg0) (lab b n) := by
  show V m c main_v0 ((win0_0.rect t).emb (labelAt r)) = _
  rw [entry_labels]
  have hi := (blocks_at t).1
  have e0 : ((win0_0.rect t).emb (labelAt r) 0 : Nat) = t.val := by
    rw [Pipeline.Window.rect_emb_val win0_0 t (labelAt r) 0, hi]
    show t.val * 1 + 0 = t.val
    omega
  have e1 : ((win0_0.rect t).emb (labelAt r) 1 : Nat) = 0 := by
    rw [Pipeline.Window.rect_emb_val win0_0 t (labelAt r) 1, hi]
    rfl
  have e2 : ((win0_0.rect t).emb (labelAt r) 2 : Nat) = r.val := by
    rw [Pipeline.Window.rect_emb_val win0_0 t (labelAt r) 2, hi]
    exact (congrArg (· + r.val) (Nat.zero_mul _)).trans (Nat.zero_add _)
  refine shapeCast_apply _ _ _ (lab b n) ?_
  exact (place_in_array (lab b n)).trans (h.trans (by rw [place_in_blocks, e0, e1, e2, Nat.mul_one, Nat.add_zero]))

/-- The offset of an access to a whole block is zero on each axis. -/
theorem zeros3 : (![0, 0, 0] : Fin 3 → Nat) = fun _ => 0 := funext fun a => by fin_cases a <;> rfl

/-- What point `t` writes back is its block of the padded result. -/
theorem flushed_eq (c : Dev nD) (t : Fin cfg0.N) :
    (dats m 0 c).flushed 1 t = (win0_1.blk t).view.read (Elt Ideal) (padded (m ((c : Thread nD τ).loc main_arg0))) := by
  show (cfg0.win 1).cut (grid0.coords t) ((dats m 0 c).after 1 t) = _
  rw [after0_1]
  unfold out0_1
  rw [View.canon_unit_zero zeros3, View.ld_unit_zero zeros3]
  funext y
  have hi := (blocks_at t).2
  have e0 : ((win0_1.rect t).emb y 0 : Nat) = t.val / 4 := by
    have hy : (y 0 : Nat) < 1 := (y 0).isLt
    rw [Pipeline.Window.rect_emb_val win0_1 t y 0, hi]
    show t.val / 4 * 1 + (y 0 : Nat) = t.val / 4
    omega
  have e1 : ((win0_1.rect t).emb y 1 : Nat) = t.val % 4 * 25000 + (y 1 : Nat) := by
    rw [Pipeline.Window.rect_emb_val win0_1 t y 1, hi]
    rfl
  have e2 : ((win0_1.rect t).emb y 2 : Nat) = (y 2 : Nat) := by
    rw [Pipeline.Window.rect_emb_val win0_1 t y 2, hi]
    show 0 * 128 + (y 2 : Nat) = (y 2 : Nat)
    omega
  show k0_pay1 (F := Ideal) (iblk m c 0 t) y
    = enc (m ((c : Thread nD τ).loc main_arg0) (lab ((win0_1.rect t).emb y 0) ((win0_1.rect t).emb y 1)))
        ((win0_1.rect t).emb y 2 : Nat)
  rw [e2]
  refine (payload_apply (iblk m c 0 t) y).trans ?_
  rw [block_label m c t (y 1) ((win0_1.rect t).emb y 0) ((win0_1.rect t).emb y 1) (by rw [e0, e1]; omega)]

/-- An index of the padded result is in point `t`'s block when its batch is `t / 4` and its position is in the
    `t % 4`-th quarter of the batch. -/
theorem mem_block (t : Fin cfg0.N) (i : S8x100000x128.Idx) (h0 : (i 0 : Nat) = t.val / 4)
    (h1 : (i 1 : Nat) / 25000 = t.val % 4) : i ∈ ((cfg0.win 1).blk t).view.set := by
  show i ∈ ((View.whole main_v1).slice (win0_1.rect t)).set
  rw [View.set_slice_whole, Rect.mem_set_unit]
  have hi := (blocks_at t).2
  have h2 : (i 2 : Nat) < 128 := (i 2).isLt
  intro a
  show win0_1.index t a * win0_1.size a ≤ (i a : Nat)
    ∧ (i a : Nat) < win0_1.index t a * win0_1.size a + win0_1.xsize (grid0.coords t) a
  rw [hi]
  match a with
  | ⟨0, _⟩ => show t.val / 4 * 1 ≤ (i 0 : Nat) ∧ (i 0 : Nat) < t.val / 4 * 1 + 1; omega
  | ⟨1, _⟩ => show t.val % 4 * 25000 ≤ (i 1 : Nat) ∧ (i 1 : Nat) < t.val % 4 * 25000 + 25000; omega
  | ⟨2, _⟩ => show 0 * 128 ≤ (i 2 : Nat) ∧ (i 2 : Nat) < 0 * 128 + 128; omega

/-- The 32 blocks tile the padded result. -/
theorem cover (i : S8x100000x128.Idx) :
    ∃ t : Fin cfg0.N, (cfg0.win 1).flush t = true ∧ i ∈ ((cfg0.win 1).blk t).view.set := by
  have h0 : (i 0 : Nat) < 8 := (i 0).isLt
  have h1 : (i 1 : Nat) < 100000 := (i 1).isLt
  have hN : cfg0.N = 32 := N_0
  have ht : (i 0 : Nat) * 4 + (i 1 : Nat) / 25000 < cfg0.N := by omega
  exact ⟨⟨_, ht⟩, flush0_1 _, mem_block _ i (by dsimp only; omega) (by dsimp only; omega)⟩

/-- The padded result after the region. -/
theorem final_padded (c : Dev nD) : (dats m 0 c).arrAt 1 cfg0.N = padded (m ((c : Thread nD τ).loc main_arg0)) :=
  (dats m 0 c).arrAt_eq_of_cover 1 _ (fun t _ => flushed_eq m c t) cover

/-- The first 81 lanes of the padded result are the result. -/
theorem slice_padded (x : (⟨S8x100000, .i32⟩ : BufTy).Contents (Elt Ideal)) :
    (extractStridedSlice S8x100000x81 ![0, 0, 0] (padded x) slices_S8x100000x128_S8x100000x81_0_0_0 :
      (⟨S8x100000x81, .i32⟩ : BufTy).Contents (Elt Ideal)) = out x := by
  funext j
  have h2 : (j 2 : Nat) < 81 := (j 2).isLt
  refine (extractStridedSlice_apply ![0, 0, 0] (padded x) slices_S8x100000x128_S8x100000x81_0_0_0 j
    (fun a => match a with | ⟨0, _⟩ => j 0 | ⟨1, _⟩ => j 1 | ⟨2, _⟩ => ⟨(j 2).val, by show (j 2).val < 128; omega⟩) ?_).trans ?_
  · intro a
    match a with
    | ⟨0, _⟩ => exact (Nat.zero_add _).symm
    | ⟨1, _⟩ => exact (Nat.zero_add _).symm
    | ⟨2, _⟩ => exact (Nat.zero_add _).symm
  · rfl

/-- The result buffer once the host's slice has run. -/
theorem tail_result (c : Dev nD) :
    Pipeline.afterTail₀ cfgs (dats m) 0 (V0 m) [hostOps1] c main_v2 = out (m ((c : Thread nD τ).loc main_arg0)) := by
  unfold Pipeline.afterTail₀
  simp only [hostOps1, List.flatten_cons, List.flatten_nil, List.append_nil]
  rw [← slice_padded, ← final_padded]
  after_results
  exact congrArg (fun v => extractStridedSlice S8x100000x81 ![0, 0, 0] v slices_S8x100000x128_S8x100000x81_0_0_0)
    (Pipeline.withArrays_arr spec0 launch0.win.arr_inj c (V0 m c) (fun w => (dats m 0 c).arrAt w cfg0.N) 1)

/-- The kernel's run: its result is `out` of the labels, and the labels stay. -/
theorem kernel_run : θ_run defs (onTc (τ := τ) (main (F := Ideal))) ⟨m, fun _ => 0, ρ⟩ fun r => ∀ c : Dev nD,
      r.2.mem ((c.tc : Thread nD τ).loc main_v2) = out (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (tail_result m c),
     ((h c).2 main_arg0 (Pipeline.mem_restRefs_of main_arg0 (by decide) (by decide))).trans (W_main_arg0 m (dats m) c)⟩)
    (run_main m ρ)

end Cert.OneHot

end
-- ==== Proof.OneHot.Reference.lean ====
/-
  The reference at an index: at batch `b`, position `n` and class `k` it holds the encoding of label `(b, n)` at `k`.
-/
module

public import proofs.«01_k».proof.Proof.Gen.ReferenceIdeal.Run
public import proofs.«01_k».proof.Proof.Gen.ReferenceIdeal.Read
public import proofs.«01_k».proof.Proof.OneHot.Word

@[expose] public section

noncomputable section

namespace Cert.OneHot

open Cert.ReferenceIdeal Cert.ReferenceIdeal.Gen Cert.ReferenceIdeal.Read Idealize.ShloMosaic Idealize.ShloMosaic.TcCoe
open Idealize.SL.Sem

/-- The label that an index of the result belongs to. -/
def refLabel (i : S8x100000x81.Idx) : S8x100000.Idx := fun a => match a with
  | ⟨0, _⟩ => i 0
  | ⟨1, _⟩ => i 1

/-- The reference's result array as one function of the labels. -/
def refOut (x : (⟨S8x100000, .i32⟩ : BufTy).Contents (Elt Ideal)) : (⟨S8x100000x81, .i32⟩ : BufTy).Contents (Elt Ideal) :=
  fun i => enc (x (refLabel i)) (i 2).val

/-- The reference's last operation computes it. -/
theorem ref_eq (x : (⟨S8x100000, .i32⟩ : BufTy).Contents (Elt Ideal)) : val_main_v7 (F := Ideal) x = refOut x := by
  funext i
  have hk : (i 2).val < 81 := (i 2).isLt
  have e : idx_main_call1_v0 (idx_main_call1_v2 i) = refLabel i := by
    funext a
    match a with
    | ⟨0, _⟩ => rfl
    | ⟨1, _⟩ => rfl
  have e' : idx_main_v5 (idx_main_call2_v0 i) = refLabel i := by
    funext a
    match a with
    | ⟨0, _⟩ => rfl
    | ⟨1, _⟩ => rfl
  simp only [val_main_v7_apply, val_main_v6_apply, val_main_v5_apply, val_main_v4_apply, val_main_v3_apply,
    val_main_v2_apply, val_main_v1_apply, val_main_v0_apply, val_main_c_apply, val_main_call1_v0_apply,
    val_main_call1_v1_apply, val_main_call1_v2_apply, val_main_call1_v3_apply, val_main_call1_v4_apply,
    val_main_call2_v0_apply, e, e']
  exact reference_word (x (refLabel i)) (by omega)

variable (m : (ℓ : Loc nD τ sig) → Buf (Elt Ideal) ℓ) (ρ : Dev nD → PrngReg)

/-- The reference's run: its result is that function of the labels, and the labels stay. -/
theorem ref_run : θ_run defs (onTc (τ := τ) (main (F := Ideal))) ⟨m, fun _ => 0, ρ⟩ fun r => ∀ c : Dev nD,
      r.2.mem ((c.tc : Thread nD τ).loc main_v7) = refOut (m ((c.tc : Thread nD τ).loc main_arg0))
      ∧ r.2.mem ((c.tc : Thread nD τ).loc main_arg0) = m ((c.tc : Thread nD τ).loc main_arg0) :=
  (θ_run defs _ _).mono (fun _ h c => ⟨((h c).1.trans (val_main_v7_eq _)).trans (ref_eq _), (h c).2⟩)
    (Cert.ReferenceIdeal.Value.run (F := Ideal) m ρ)

end Cert.OneHot

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.OneHot.Kernel
public import proofs.«01_k».proof.Proof.OneHot.Reference
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, keeps its labels, and ends with every semaphore counter at zero: it declares none. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.OneHot.ref_run m ρ)

/-- The two result functions are the same function of the labels. -/
theorem out_eq (x : (⟨Cert.KernelIdeal.S8x100000, .i32⟩ : BufTy).Contents (Elt Ideal)) :
    Cert.OneHot.refOut x = Cert.OneHot.out x := by
  funext i
  have e : Cert.OneHot.refLabel i = Cert.OneHot.lab (i 0) (i 1) := by
    funext a
    match a with
    | ⟨0, _⟩ => rfl
    | ⟨1, _⟩ => rfl
  show Cert.OneHot.enc (x (Cert.OneHot.refLabel i)) (i 2).val = Cert.OneHot.enc (x (Cert.OneHot.lab (i 0) (i 1))) (i 2).val
  rw [e]

/-- From equal labels, kernel and reference end with the same result, at every label array. -/
theorem value : Cert.algebraic_KernelIdeal_ReferenceIdeal := fun m g m' g' _ hagree =>
  ⟨fun c => Cert.OneHot.out (m ((c.tc : Thread Cert.KernelIdeal.nD Cert.KernelIdeal.τ).loc Cert.KernelIdeal.main_arg0)),
    Cert.OneHot.kernel_run m g,
    (θ_run Cert.ReferenceIdeal.defs _ _).mono
      (fun _ h c => ⟨(h c).1.trans ((congrArg Cert.OneHot.refOut (hagree c)).trans (out_eq _)), (h c).2⟩)
      (Cert.OneHot.ref_run m' g')⟩

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, value⟩

end Cert.Proof

end
